-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x200x128 : Shape := ⟨3, ![4096, 200, 128]⟩
abbrev S4096x200 : Shape := ⟨2, ![4096, 200]⟩
abbrev S4096x128 : Shape := ⟨2, ![4096, 128]⟩
abbrev S128x128 : Shape := ⟨2, ![128, 128]⟩
abbrev S3x128x200x128 : Shape := ⟨4, ![3, 128, 200, 128]⟩
abbrev S3x128x200 : Shape := ⟨3, ![3, 128, 200]⟩
abbrev S3 : Shape := ⟨1, ![3]⟩
abbrev S1 : Shape := ⟨1, ![1]⟩
abbrev S_ : Shape := ⟨0, ![]⟩
abbrev S1x128x200x128 : Shape := ⟨4, ![1, 128, 200, 128]⟩
abbrev S128x200x128 : Shape := ⟨3, ![128, 200, 128]⟩
abbrev S1x128x200 : Shape := ⟨3, ![1, 128, 200]⟩
abbrev S128x200 : Shape := ⟨2, ![128, 200]⟩
abbrev S128x200x1 : Shape := ⟨3, ![128, 200, 1]⟩
abbrev S128 : Shape := ⟨1, ![128]⟩
abbrev S128x1 : Shape := ⟨2, ![128, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x200x128, .f32⟩
  | .hbm, ⟨1, _⟩ => ⟨S4096x200, .f32⟩
  | .hbm, ⟨2, _⟩ => ⟨S4096x128, .f32⟩
  | .local _ .vmem, ⟨0, _⟩ => ⟨S128x128, .f32⟩
  | .local _ .vmem, ⟨1, _⟩ => ⟨S128x128, .f32⟩
  | .local _ .vmem, ⟨2, _⟩ => ⟨S3x128x200x128, .f32⟩
  | .local _ .vmem, ⟨3, _⟩ => ⟨S3x128x200, .f32⟩
  | _, _ => ⟨S4096x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem0_1 : DmaSem sig := 1

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off2 (i : grid0.Coords) : Fin 4 → Nat :=
  let arg0 : BitVec 32 := BitVec.ofNat 32 (i 0).val
  let c3_i32 : BitVec 32 := 3#32
  let v3 : BitVec 32 := Scalar.remsi arg0 c3_i32
  let c0_i32_2 : BitVec 32 := 0#32
  let c0_i32_3 : BitVec 32 := 0#32
  let c0_i32_4 : BitVec 32 := 0#32
  ![v3.toNat, 0, 0, 0]
def k0_off3 (i : grid0.Coords) : Fin 3 → Nat :=
  let arg0 : BitVec 32 := BitVec.ofNat 32 (i 0).val
  let c3_i32 : BitVec 32 := 3#32
  let v3 : BitVec 32 := Scalar.remsi arg0 c3_i32
  let c0_i32_8 : BitVec 32 := 0#32
  let c0_i32_9 : BitVec 32 := 0#32
  ![v3.toNat, 0, 0]
def k0_off4 (i : grid0.Coords) : Fin 4 → Nat :=
  let arg0 : BitVec 32 := BitVec.ofNat 32 (i 0).val
  let c3_i32 : BitVec 32 := 3#32
  let v3 : BitVec 32 := Scalar.remsi arg0 c3_i32
  let v15 : Index := Scalar.indexCast v3
  let c0 : Index := 0#32
  let c0_12 : Index := 0#32
  let c0_13 : Index := 0#32
  ![v15.toNat, 0, 0, 0]
def k0_off5 (i : grid0.Coords) : Fin 3 → Nat :=
  let arg0 : BitVec 32 := BitVec.ofNat 32 (i 0).val
  let c3_i32 : BitVec 32 := 3#32
  let v3 : BitVec 32 := Scalar.remsi arg0 c3_i32
  let v18 : Index := Scalar.indexCast v3
  let c0_14 : Index := 0#32
  let c0_15 : Index := 0#32
  ![v18.toNat, 0, 0]
def k0_cond2 (i : grid0.Coords) : BitVec 1 :=
  let arg0 : BitVec 32 := BitVec.ofNat 32 (i 0).val
  let c3_i32_1 : BitVec 32 := 3#32
  let v4 : BitVec 32 := Scalar.addi arg0 c3_i32_1
  let c32_i32 : BitVec 32 := 32#32
  let v30 : BitVec 1 := Scalar.cmpi .slt v4 c32_i32
  let v31 : BitVec 32 := Scalar.extui v30
  let c0_i32_19 : BitVec 32 := 0#32
  let v32 : BitVec 1 := Scalar.cmpi .ne v31 c0_i32_19
  v32

def k0_off6 (i : grid0.Coords) : Fin 1 → Nat :=
  let arg0 : BitVec 32 := BitVec.ofNat 32 (i 0).val
  let c3_i32 : BitVec 32 := 3#32
  let v3 : BitVec 32 := Scalar.remsi arg0 c3_i32
  ![v3.toNat]
def k0_off7 (i : grid0.Coords) : Fin 4 → Nat :=
  let arg0 : BitVec 32 := BitVec.ofNat 32 (i 0).val
  let c3_i32 : BitVec 32 := 3#32
  let v3 : BitVec 32 := Scalar.remsi arg0 c3_i32
  let c0_i32_20 : BitVec 32 := 0#32
  let c0_i32_21 : BitVec 32 := 0#32
  let c0_i32_22 : BitVec 32 := 0#32
  ![v3.toNat, 0, 0, 0]
def k0_off8 (i : grid0.Coords) : Fin 3 → Nat :=
  let arg0 : BitVec 32 := BitVec.ofNat 32 (i 0).val
  let c3_i32_1 : BitVec 32 := 3#32
  let v4 : BitVec 32 := Scalar.addi arg0 c3_i32_1
  let c128_i32 : BitVec 32 := 128#32
  let v33 : BitVec 32 := Scalar.muli v4 c128_i32
  let c0_i32_23 : BitVec 32 := 0#32
  let c0_i32_24 : BitVec 32 := 0#32
  ![v33.toNat, 0, 0]
def k0_off9 (i : grid0.Coords) : Fin 3 → Nat :=
  let arg0 : BitVec 32 := BitVec.ofNat 32 (i 0).val
  let c3_i32 : BitVec 32 := 3#32
  let v3 : BitVec 32 := Scalar.remsi arg0 c3_i32
  let c0_i32_25 : BitVec 32 := 0#32
  let c0_i32_26 : BitVec 32 := 0#32
  ![v3.toNat, 0, 0]
def k0_off10 (i : grid0.Coords) : Fin 2 → Nat :=
  let arg0 : BitVec 32 := BitVec.ofNat 32 (i 0).val
  let c3_i32_1 : BitVec 32 := 3#32
  let v4 : BitVec 32 := Scalar.addi arg0 c3_i32_1
  let c128_i32 : BitVec 32 := 128#32
  let v33 : BitVec 32 := Scalar.muli v4 c128_i32
  let c0_i32_27 : BitVec 32 := 0#32
  ![v33.toNat, 0]
def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]
-- ==== ReferenceIdeal.lean ====
abbrev S4096x200x128 : Shape := ⟨3, ![4096, 200, 128]⟩
abbrev S4096x200 : Shape := ⟨2, ![4096, 200]⟩
abbrev S4096x200x1 : Shape := ⟨3, ![4096, 200, 1]⟩
abbrev S_ : Shape := ⟨0, ![]⟩
abbrev S4096x128 : Shape := ⟨2, ![4096, 128]⟩
abbrev S4096x1 : Shape := ⟨2, ![4096, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096x200, .f32⟩
  | .hbm, ⟨2, _⟩ => ⟨S4096x200x1, .f32⟩
  | .hbm, ⟨3, _⟩ => ⟨S4096x200x128, .f32⟩
  | .hbm, ⟨4, _⟩ => ⟨S4096x200x128, .f32⟩
  | .hbm, ⟨5, _⟩ => ⟨S_, .f32⟩
  | .hbm, ⟨6, _⟩ => ⟨S4096x128, .f32⟩
  | .hbm, ⟨7, _⟩ => ⟨S_, .f32⟩
  | .hbm, ⟨8, _⟩ => ⟨S4096x1, .f32⟩
  | .hbm, ⟨9, _⟩ => ⟨S4096x128, .f32⟩
  | .hbm, ⟨10, _⟩ => ⟨S4096x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Ring.lean ====
/- The two streams of the kernel, by name.

   The kernel reads its operands itself: blocks of 128 rows of `main_arg0` and of `main_arg1` go through the three
   slots of a scratch buffer each. It starts three blocks before its first step, and in step `t` it waits for block
   `t`, reads it, and starts block `t + 3` into the slot it has just read. So before every step but the first all
   three slots are busy (or, at the end, already retired), and a step touches slot `t mod 3` alone.

   This module names the slots, the blocks and the semaphore cells, says what each slot's state is between steps,
   and says that the addresses the kernel computes are those names. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.WAvg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-! ## Three slots, three blocks ahead: the state between steps -/

section Three
variable (idle : Fin 3 → sProp (MT nD τ sig Unit (Elt F) ℕ (Pipeline.UD sig nD τ) ℕ)) (busy : Fin 3 → Fin 32 → sProp (MT nD τ sig Unit (Elt F) ℕ (Pipeline.UD sig nD τ) ℕ))

/-- The slot of step `k`, as step `k` finds it: its block on the way, or, past the last block, nothing on the way. -/
def role (k : ℕ) : sProp (MT nD τ sig Unit (Elt F) ℕ (Pipeline.UD sig nD τ) ℕ) := if k < 32 then busy (Ring.sl 3 k) (Ring.bk 32 k) else idle (Ring.sl 3 k)

/-- The three slots before step `k`. -/
def ring (k : ℕ) : sProp (MT nD τ sig Unit (Elt F) ℕ (Pipeline.UD sig nD τ) ℕ) :=
  if k = 0 then iprop(idle (Ring.sl 3 0) ∗ idle (Ring.sl 3 1) ∗ idle (Ring.sl 3 2))
  else iprop(role idle busy k ∗ role idle busy (k + 1) ∗ role idle busy (k + 2))

theorem ring_pos {k : ℕ} (h : 1 ≤ k) :
    ring idle busy k = iprop(role idle busy k ∗ role idle busy (k + 1) ∗ role idle busy (k + 2)) := if_neg (by omega)

theorem role_busy {k : ℕ} (h : k < 32) : role idle busy k = busy (Ring.sl 3 k) (Ring.bk 32 k) := if_pos h

theorem role_idle {k : ℕ} (h : 32 ≤ k) : role idle busy k = idle (Ring.sl 3 k) := if_neg (by omega)

/-- Step `k + 3` uses the slot of step `k`. -/
theorem sl_again (k : ℕ) : Ring.sl 3 (k + 3) = Ring.sl 3 k := Fin.ext (Nat.add_mod_right k 3)

/-- Before the first step nothing is on the way. -/
theorem ring_first {k : ℕ} (h : k = 0) :
    ring idle busy k = iprop(idle (Ring.sl 3 k) ∗ idle (Ring.sl 3 (k + 1)) ∗ idle (Ring.sl 3 (k + 2))) := by subst h; exact if_pos rfl

/-- After a step that started a block, that block is on the way to the slot the step used; -/
theorem ring_fed {k : ℕ} (h : k + 3 < 32) :
    ring idle busy (k + 1) = iprop(role idle busy (k + 1) ∗ role idle busy (k + 2) ∗ busy (Ring.sl 3 k) (Ring.bk 32 (k + 3))) := by
  rw [ring_pos idle busy (by omega), role_busy idle busy (show k + 1 + 2 < 32 by omega), show k + 1 + 2 = k + 3 from rfl, sl_again]

/-- after one that had none left to start, that slot is idle. -/
theorem ring_spent {k : ℕ} (h : 32 ≤ k + 3) :
    ring idle busy (k + 1) = iprop(role idle busy (k + 1) ∗ role idle busy (k + 2) ∗ idle (Ring.sl 3 k)) := by
  rw [ring_pos idle busy (by omega), role_idle idle busy (show 32 ≤ k + 1 + 2 by omega), show k + 1 + 2 = k + 3 from rfl, sl_again]

/-- After the last step every slot is idle. -/
theorem ring_last : ring idle busy 32 = iprop(idle 2 ∗ idle 0 ∗ idle 1) := by
  rw [ring_pos _ _ (by decide), role_idle _ _ (by decide), role_idle _ _ (by decide), role_idle _ _ (by decide)]; rfl

end Three

section Shares
variable {ℓ : Loc nD τ sig}

/-- The part of a read permission that slot `s` has of its operand. -/
abbrev part (s : Fin 3) : PosShare TreeShare :=
  if s.val = 0 then fullShare.left else if s.val = 1 then fullShare.right.left else fullShare.right.right

omit [FloatOps F] in
/-- A buffer held whole is its three parts. -/
theorem parts (W : Buf (Elt F) ℓ) :
    (ℓ ↦{fullShare} W : sProp 𝕄) ⊣⊢ iprop((ℓ ↦{part 0} W) ∗ (ℓ ↦{part 1} W) ∗ ℓ ↦{part 2} W) := by
  have h1 := pointsTo_share (Ix := Unit) (Name := ℕ) (U := Pipeline.UD sig nD τ) (Lvl := ℕ) (ℓ := ℓ) (I := Finset.univ) (f := W)
    (PosShare.mem_left_op_right fullShare)
  have h2 := pointsTo_share (Ix := Unit) (Name := ℕ) (U := Pipeline.UD sig nD τ) (Lvl := ℕ) (ℓ := ℓ) (I := Finset.univ) (f := W)
    (PosShare.mem_left_op_right fullShare.right)
  exact ⟨h1.1.trans (sep_mono .rfl h2.1), (sep_mono .rfl h2.2).trans h1.2⟩

omit [FloatOps F] in
/-- What is outside one set of elements is another, disjoint one and what is outside both. -/
theorem outside {q : PosShare TreeShare} {A B : Finset (Idx ℓ)} (h : Disjoint A B) (W : Buf (Elt F) ℓ) :
    (ℓ ↦[Finset.univ \ A]{q} W : sProp 𝕄) ⊣⊢ iprop((ℓ ↦[B]{q} W) ∗ ℓ ↦[Finset.univ \ (A ∪ B)]{q} W) := by
  have hB : B ⊆ Finset.univ \ A := fun i hi =>
    Finset.mem_sdiff.mpr ⟨Finset.mem_univ _, fun hA => (Finset.disjoint_left.mp h) hA hi⟩
  have e : Finset.univ \ (A ∪ B) = (Finset.univ \ A) \ B := by ext i; simp only [Finset.mem_sdiff, Finset.mem_union, Finset.mem_univ, true_and]; tauto
  rw [e]; exact pointsTo_split_subset hB

end Shares

/-! ## When a step starts blocks -/

/-- The step is the one that starts the first three blocks: the first. -/
abbrev starts (i : grid0.Coords) : Prop :=
  (Scalar.cmpi .ne (Scalar.extui (Scalar.cmpi .eq (BitVec.ofNat 32 (i 0).val) 0#32)) 0#32) = 1#1
/-- The step has a block three ahead of it to start. -/
abbrev feeds (i : grid0.Coords) : Prop := k0_cond2 i = 1#1

omit [FloatOps F] in
theorem starts_iff : ∀ t : Fin grid0.N, starts (grid0.coords t) ↔ t.val = 0 := by decide +kernel
omit [FloatOps F] in
theorem feeds_iff : ∀ t : Fin grid0.N, feeds (grid0.coords t) ↔ t.val < 29 := by decide +kernel

instance : NeZero grid0.N := ⟨by rw [N_0]; decide⟩

/-! ## The operands and the scratch buffers -/

abbrev xArr : Memref sig .tc .hbm S4096x200x128 .f32 := Memref.whole main_arg0
abbrev wArr : Memref sig .tc .hbm S4096x200 .f32 := Memref.whole main_arg1
abbrev xScr : Memref sig .tc .vmem S3x128x200x128 .f32 := Memref.whole cc0_scratch0
abbrev wScr : Memref sig .tc .vmem S3x128x200 .f32 := Memref.whole cc0_scratch1

/-- The contents of the buffer a memref is in, and that buffer held whole. -/
abbrev Cts (c : Dev nD) {sp : Space} {S : Shape} {e : EltTy} (M : Memref sig .tc sp S e) : Type := Buf (Elt F) (M.view.loc (c : Thread nD τ))
abbrev held (c : Dev nD) {sp : Space} {S : Shape} {e : EltTy} (M : Memref sig .tc sp S e) (f : Cts (F := F) c M) : sProp 𝕄 :=
  M.view.loc (c : Thread nD τ) ↦{fullShare} f

/-! ## One stream: slots `M`, blocks `B`, cells -/

section Stream
variable {S : Shape} (c : Dev nD)

/-- A slot held, at contents `f`. -/
abbrev Own (M : Memref sig .tc .vmem S .f32) (f : Cts (F := F) c M) : sProp 𝕄 :=
  M.view.loc (c : Thread nD τ) ↦[M.view.set]{fullShare} f
/-- A block of an operand, held with the read permission `q`. -/
abbrev Lend (B : Memref sig .tc .hbm S .f32) (q : PosShare TreeShare) (W : Cts (F := F) c B) : sProp 𝕄 :=
  B.view.loc (c : Thread nD τ) ↦[B.view.set]{q} W
/-- What a slot that held `f` holds once block `B` has arrived. -/
abbrev Got (M : Memref sig .tc .vmem S .f32) (B : Memref sig .tc .hbm S .f32) (W : Cts (F := F) c B) (f : Cts (F := F) c M) : Cts (F := F) c M :=
  M.view.writes (Elt F) f [⟨Rect.whole S, ReadAs.same.apply (B.view.read (Elt F) W)⟩]
/-- Block `B` on the way to slot `M`: waiting at cell `k` gives the slot with the block in it, and the block back. -/
abbrev Way (M : Memref sig .tc .vmem S .f32) (B : Memref sig .tc .hbm S .f32) (k : SemLoc sig) (q : PosShare TreeShare)
    (W : Cts (F := F) c B) (f : Cts (F := F) c M) : sProp 𝕄 :=
  Transfers.Flight countersEmb (c : Thread nD τ) k default (M.view.amount k) iprop(Own c M (Got c M B W f) ∗ Lend c B q W)
/-- A buffer but for some of its elements. (Kept folded: no run looks inside it.) -/
def But {ℓ : Loc nD τ sig} (A : Finset (Idx ℓ)) (q : PosShare TreeShare) (W : Buf (Elt F) ℓ) : sProp 𝕄 := ℓ ↦[Finset.univ \ A]{q} W

omit [FloatOps F] in
theorem but_whole {ℓ : Loc nD τ sig} (A : Finset (Idx ℓ)) (q : PosShare TreeShare) (W : Buf (Elt F) ℓ) :
    (ℓ ↦{q} W : sProp 𝕄) ⊣⊢ iprop((ℓ ↦[A]{q} W) ∗ But A q W) := by
  unfold But; exact pointsTo_split_subset (Finset.subset_univ _)
omit [FloatOps F] in
theorem but_one {ℓ : Loc nD τ sig} {A B : Finset (Idx ℓ)} (h : Disjoint A B) (q : PosShare TreeShare) (W : Buf (Elt F) ℓ) :
    (But A q W : sProp 𝕄) ⊣⊢ iprop((ℓ ↦[B]{q} W) ∗ But (A ∪ B) q W) := by
  unfold But; exact outside h W

/-- The three pieces of a stream's buffers make three idle slots, -/
theorem deal {ℓs ℓ : Loc nD τ sig} (J : Fin 3 → Finset (Idx ℓs)) (hd : ∀ s s', s ≠ s' → Disjoint (J s) (J s'))
    (hc : Finset.univ.biUnion J = Finset.univ) (own : Fin 3 → Buf (Elt F) ℓs → sProp 𝕄)
    (e : ∀ s f, own s f = (ℓs ↦[J s]{fullShare} f : sProp 𝕄)) (C : Fin 3 → sProp 𝕄) (W : Buf (Elt F) ℓ) :
    iprop((∃ f, ℓs ↦{fullShare} f) ∗ (C 0 ∗ C 1 ∗ C 2) ∗ ℓ ↦{fullShare} W)
      ⊢ (iprop((C 0 ∗ (∃ f, own 0 f) ∗ ℓ ↦{part 0} W) ∗ (C 1 ∗ (∃ f, own 1 f) ∗ ℓ ↦{part 1} W) ∗ (C 2 ∗ (∃ f, own 2 f) ∗ ℓ ↦{part 2} W)) : sProp 𝕄) := by
  iintro ⟨HS, ⟨C0, C1, C2⟩, HW⟩
  ihave HS' := (Ring.slots3_split (U := Pipeline.UD sig nD τ) J hd hc (own 0) (own 1) (own 2) (e 0) (e 1) (e 2)) $$ HS
  icases HS' with ⟨S0, S1, S2⟩
  ihave HW' := (parts W).1 $$ HW
  icases HW' with ⟨W0, W1, W2⟩
  isplitl [C0 S0 W0]
  · isplitl [C0]; · iexact C0
    isplitl [S0]; · iexact S0
    iexact W0
  isplitl [C1 S1 W1]
  · isplitl [C1]; · iexact C1
    isplitl [S1]; · iexact S1
    iexact W1
  · isplitl [C2]; · iexact C2
    isplitl [S2]; · iexact S2
    iexact W2

/-- and back (in the order in which the slots retire). -/
theorem undeal {ℓs ℓ : Loc nD τ sig} (J : Fin 3 → Finset (Idx ℓs)) (hd : ∀ s s', s ≠ s' → Disjoint (J s) (J s'))
    (hc : Finset.univ.biUnion J = Finset.univ) (own : Fin 3 → Buf (Elt F) ℓs → sProp 𝕄)
    (e : ∀ s f, own s f = (ℓs ↦[J s]{fullShare} f : sProp 𝕄)) (C : Fin 3 → sProp 𝕄) (W : Buf (Elt F) ℓ) :
    (iprop((C 2 ∗ (∃ f, own 2 f) ∗ ℓ ↦{part 2} W) ∗ (C 0 ∗ (∃ f, own 0 f) ∗ ℓ ↦{part 0} W) ∗ (C 1 ∗ (∃ f, own 1 f) ∗ ℓ ↦{part 1} W)) : sProp 𝕄)
      ⊢ iprop((∃ f, ℓs ↦{fullShare} f) ∗ (C 0 ∗ C 1 ∗ C 2) ∗ ℓ ↦{fullShare} W) := by
  iintro ⟨⟨C2, S2, W2⟩, ⟨C0, S0, W0⟩, ⟨C1, S1, W1⟩⟩
  isplitl [S0 S1 S2]
  · iapply (Ring.slots3_join (U := Pipeline.UD sig nD τ) J hd hc (own 0) (own 1) (own 2) (e 0) (e 1) (e 2))
    isplitl [S0]; · iexact S0
    isplitl [S1]; · iexact S1
    iexact S2
  isplitl [C0 C1 C2]
  · isplitl [C0]; · iexact C0
    isplitl [C1]; · iexact C1
    iexact C2
  · iapply (parts W).2
    isplitl [W0]; · iexact W0
    isplitl [W1]; · iexact W1
    iexact W2

end Stream

/-! ## The numbers of slots and blocks, as the kernel computes them -/

section Numbers
omit [FloatOps F]

/-- In the first step, slot and block `j` are those of step `j` from there. -/
theorem first_slot (t : Fin grid0.N) (h : starts (grid0.coords t)) (j : ℕ) (hj : j < 3) : j = (Ring.sl 3 (t.val + j)).val := by
  rw [(starts_iff t).1 h, Nat.zero_add]; exact (Nat.mod_eq_of_lt hj).symm
theorem first_row (t : Fin grid0.N) (h : starts (grid0.coords t)) (j : ℕ) (hj : j < 32) : 128 * j = 128 * (Ring.bk 32 (t.val + j)).val := by
  rw [(starts_iff t).1 h, Nat.zero_add]; exact congrArg (128 * ·) (Nat.mod_eq_of_lt hj).symm

theorem off1_at : ∀ t : Fin grid0.N, k0_off1 (grid0.coords t) = ![(Ring.sl 3 t.val).val] := by decide +kernel
theorem off2_at : ∀ t : Fin grid0.N, k0_off2 (grid0.coords t) = ![(Ring.sl 3 t.val).val, 0, 0, 0] := by decide +kernel
theorem off3_at : ∀ t : Fin grid0.N, k0_off3 (grid0.coords t) = ![(Ring.sl 3 t.val).val, 0, 0] := by decide +kernel
theorem off8_at : ∀ t : Fin grid0.N, feeds (grid0.coords t) → k0_off8 (grid0.coords t) = ![128 * (Ring.bk 32 (t.val + 3)).val, 0, 0] := by decide +kernel
theorem off10_at : ∀ t : Fin grid0.N, feeds (grid0.coords t) → k0_off10 (grid0.coords t) = ![128 * (Ring.bk 32 (t.val + 3)).val, 0] := by decide +kernel
/-- The loads' boxes are the slots' own. -/
instance (priority := high) off4_closed (t : Fin grid0.N) : ClosedOff (k0_off4 (grid0.coords t)) := ⟨_, off2_at t⟩
instance (priority := high) off5_closed (t : Fin grid0.N) : ClosedOff (k0_off5 (grid0.coords t)) := ⟨_, off3_at t⟩

end Numbers

/-! ## The cells -/

theorem cell_inb (s : Fin 3) : ∀ a, (![s.val] : Fin 1 → Nat) a + S1.size a ≤ S3.size a := by
  have := s.isLt; intro a; fin_cases a; simp; omega

section Cells
omit [FloatOps F]

/-- Cell `s` of a stream's semaphores. -/
def cell (A : DmaSems sig S3) (s : Fin 3) : DmaSems sig S_ := (A.slice (Rect.unit (s := S3) ![s.val] S1.size (cell_inb s))).squeeze S_ squeezes_S1_S_
abbrev xSem (s : Fin 3) : SemLoc sig := SemLoc.dma (cell cc0_scratch2 s).sem
abbrev wSem (s : Fin 3) : SemLoc sig := SemLoc.dma (cell cc0_scratch3 s).sem
theorem xSem_eq : xSem 0 = SemLoc.dma 2 ∧ xSem 1 = SemLoc.dma 3 ∧ xSem 2 = SemLoc.dma 4 := by decide
theorem wSem_eq : wSem 0 = SemLoc.dma 5 ∧ wSem 1 = SemLoc.dma 6 ∧ wSem 2 = SemLoc.dma 7 := by decide

variable (A : DmaSems sig S3) (t : Fin grid0.N)
theorem cell_of {o : Fin 1 → Nat} {s : Fin 3} (h : o = ![s.val]) (i : ∀ a, o a + S1.size a ≤ S3.size a) :
    (A.slice (Rect.unit (s := S3) o S1.size i)).squeeze S_ squeezes_S1_S_ = cell A s :=
  congrArg (fun A : DmaSems sig S1 => A.squeeze S_ squeezes_S1_S_) (SemArray.slice_unit_congr _ h _ _)
theorem first_cell (h : starts (grid0.coords t)) (j : ℕ) (hj : j < 3) : (![j] : Fin 1 → Nat) = ![(Ring.sl 3 (t.val + j)).val] :=
  congrArg (fun k => ![k]) (first_slot t h j hj)
@[sl_canon] theorem cell_first0 (h : starts (grid0.coords t)) :
    (A.slice (Rect.unit (s := S3) ![0] S1.size inb_S3_S1_0)).squeeze S_ squeezes_S1_S_ = cell A (Ring.sl 3 t.val) := cell_of A (first_cell t h 0 (by decide)) _
@[sl_canon] theorem cell_first1 (h : starts (grid0.coords t)) :
    (A.slice (Rect.unit (s := S3) ![1] S1.size inb_S3_S1_1)).squeeze S_ squeezes_S1_S_ = cell A (Ring.sl 3 (t.val + 1)) := cell_of A (first_cell t h 1 (by decide)) _
@[sl_canon] theorem cell_first2 (h : starts (grid0.coords t)) :
    (A.slice (Rect.unit (s := S3) ![2] S1.size inb_S3_S1_2)).squeeze S_ squeezes_S1_S_ = cell A (Ring.sl 3 (t.val + 2)) := cell_of A (first_cell t h 2 (by decide)) _
@[sl_canon] theorem cell_wait :
    (A.slice (Rect.unit (s := S3) (k0_off1 (grid0.coords t)) S1.size (k0_off1_inb (grid0.coords t)))).squeeze S_ squeezes_S1_S_ = cell A (Ring.sl 3 t.val) :=
  cell_of A (off1_at t) _
@[sl_canon] theorem cell_next (h : feeds (grid0.coords t)) :
    (A.slice (Rect.unit (s := S3) (k0_off6 (grid0.coords t)) S1.size (k0_off6_inb (grid0.coords t) h))).squeeze S_ squeezes_S1_S_ = cell A (Ring.sl 3 t.val) :=
  cell_of A (off1_at t) _

end Cells

/-! ## The stream of the array that is averaged -/

theorem xSlot_inb (s : Fin 3) : ∀ a, (![s.val, 0, 0, 0] : Fin 4 → Nat) a + S1x128x200x128.size a ≤ S3x128x200x128.size a := by
  have := s.isLt; intro a; fin_cases a <;> simp <;> omega
theorem xBlk_inb (b : Fin 32) : ∀ a, (![128 * b.val, 0, 0] : Fin 3 → Nat) a + S128x200x128.size a ≤ S4096x200x128.size a := by
  have := b.isLt; intro a; fin_cases a <;> simp <;> omega
/-- Slot `s`, and block `b`: the rows from `128 b` on. -/
def xSlot (s : Fin 3) : Memref sig .tc .vmem S128x200x128 .f32 :=
  (xScr.slice (Rect.unit (s := S3x128x200x128) ![s.val, 0, 0, 0] S1x128x200x128.size (xSlot_inb s)) (fun _ => rfl)).squeeze S128x200x128 squeezes_S1x128x200x128_S128x200x128
def xBlk (b : Fin 32) : Memref sig .tc .hbm S128x200x128 .f32 :=
  xArr.slice (Rect.unit (s := S4096x200x128) ![128 * b.val, 0, 0] S128x200x128.size (xBlk_inb b)) (fun _ => rfl)

section
variable (c : Dev nD) (W : Cts (F := F) c xArr)

/-- A slot's part of the operand: whole, and but for the block `b`, and but for two blocks. -/
abbrev xAll (s : Fin 3) : sProp 𝕄 := ((c : Thread nD τ).loc main_arg0) ↦{part s} W
abbrev xBut (s : Fin 3) (b : Fin 32) : sProp 𝕄 := But (ℓ := (c : Thread nD τ).loc main_arg0) (xBlk b).view.set (part s) W
abbrev xBut₂ (s : Fin 3) (b b' : Fin 32) : sProp 𝕄 := But (ℓ := (c : Thread nD τ).loc main_arg0) ((xBlk b).view.set ∪ (xBlk b').view.set) (part s) W
/-- The states of a slot between steps. -/
def xIdle (s : Fin 3) : sProp 𝕄 := iprop(semVal ((c : Thread nD τ), xSem s) 0 ∗ (∃ f, Own c (xSlot s) f) ∗ xAll c W s)
def xBusy (s : Fin 3) (b : Fin 32) : sProp 𝕄 := iprop((∃ f, Way c (xSlot s) (xBlk b) (xSem s) (part s) W f) ∗ xBut c W s b)

theorem x_whole (s : Fin 3) (b : Fin 32) : xAll c W s ⊣⊢ iprop(Lend c (xBlk b) (part s) W ∗ xBut c W s b) :=
  but_whole (ℓ := (c : Thread nD τ).loc main_arg0) (xBlk b).view.set (part s) W
theorem x_one (s : Fin 3) {b b' : Fin 32} (h : b ≠ b') : xBut c W s b ⊣⊢ iprop(Lend c (xBlk b') (part s) W ∗ xBut₂ c W s b b') := by
  have e : ∀ b, (xBlk b).view.set = (Rect.unit (s := S4096x200x128) ![128 * b.val, 0, 0] S128x200x128.size (xBlk_inb b)).set := fun b => View.set_slice_whole _ _
  refine but_one (ℓ := (c : Thread nD τ).loc main_arg0) ?_ (part s) W
  rw [e, e]
  exact Ring.lead_disjoint (s := S4096x200x128) (0 : Fin 3) 128 (fun b : Fin 32 => (![128 * b.val, 0, 0] : Fin 3 → Nat)) S128x200x128.size xBlk_inb
    (fun b => by simp) rfl b b' h
theorem x_back (s : Fin 3) {b b' : Fin 32} (h : b ≠ b') : iprop(Lend c (xBlk b) (part s) W ∗ xBut₂ c W s b b') ⊢ xBut c W s b' := by
  have e : xBut₂ c W s b b' = xBut₂ c W s b' b :=
    congrArg (fun A => But (ℓ := (c : Thread nD τ).loc main_arg0) A (part s) W) (Finset.union_comm (xBlk b).view.set (xBlk b').view.set)
  rw [e]; exact (x_one c W s h.symm).2

abbrev xPart (s : Fin 3) : Finset S3x128x200x128.Idx := (Rect.unit (s := S3x128x200x128) ![s.val, 0, 0, 0] S1x128x200x128.size (xSlot_inb s)).set
theorem xPart_apart (s s' : Fin 3) (h : s ≠ s') : Disjoint (xPart s) (xPart s') :=
  Ring.lead_disjoint (s := S3x128x200x128) (0 : Fin 4) 1 (fun s : Fin 3 => (![s.val, 0, 0, 0] : Fin 4 → Nat)) S1x128x200x128.size xSlot_inb (fun s => by simp) rfl s s' h
theorem xPart_cover : Finset.univ.biUnion xPart = Finset.univ :=
  Ring.lead_cover (s := S3x128x200x128) (0 : Fin 4) 1 (fun s : Fin 3 => (![s.val, 0, 0, 0] : Fin 4 → Nat)) S1x128x200x128.size xSlot_inb (fun s => by simp)
    (fun s a ha => by fin_cases a <;> first | exact absurd rfl ha | rfl) rfl
    (fun a ha => by fin_cases a <;> first | exact absurd rfl ha | rfl) rfl
theorem xOwn_eq (s : Fin 3) (f) : Own (F := F) c (xSlot s) f = (((c : Thread nD τ).loc cc0_scratch0) ↦[xPart s]{fullShare} f : sProp 𝕄) := by
  have e : (xSlot s).view.set = xPart s := by
    simp only [xSlot, Memref.view_squeeze, View.set_reshape]; exact View.set_slice_whole _ _
  unfold Own; rw [e]; rfl

/-- What the launch has for the stream: its scratch buffer, its cells at rest, its operand. -/
abbrev xKit : sProp 𝕄 := iprop((∃ d, owns (c : Thread nD τ) xScr fullShare d)
  ∗ (semVal ((c : Thread nD τ), SemLoc.dma 2) 0 ∗ semVal ((c : Thread nD τ), SemLoc.dma 3) 0 ∗ semVal ((c : Thread nD τ), SemLoc.dma 4) 0)
  ∗ held c xArr W)
abbrev xRing (k : ℕ) : sProp 𝕄 := ring (xIdle c W) (xBusy c W) k
/-- It is the stream before its first step, and it is there again after the last. -/
theorem x_enter : xKit c W ⊢ xRing c W 0 := by
  unfold xKit xRing
  rw [ring_first _ _ rfl, show Ring.sl 3 0 = 0 from rfl, show Ring.sl 3 (0 + 1) = 1 from rfl, show Ring.sl 3 (0 + 2) = 2 from rfl, ← xSem_eq.1, ← xSem_eq.2.1, ← xSem_eq.2.2]
  unfold xIdle
  simp only [xScr, owns_whole]
  exact deal (ℓs := (c : Thread nD τ).loc cc0_scratch0) (ℓ := (c : Thread nD τ).loc main_arg0) xPart xPart_apart xPart_cover (fun s f => Own c (xSlot s) f) (xOwn_eq c) (fun s => semVal ((c : Thread nD τ), xSem s) 0) W
theorem x_leave : xRing c W 32 ⊢ xKit c W := by
  unfold xKit xRing
  rw [ring_last, ← xSem_eq.1, ← xSem_eq.2.1, ← xSem_eq.2.2]
  unfold xIdle
  simp only [xScr, owns_whole]
  exact undeal (ℓs := (c : Thread nD τ).loc cc0_scratch0) (ℓ := (c : Thread nD τ).loc main_arg0) xPart xPart_apart xPart_cover (fun s f => Own c (xSlot s) f) (xOwn_eq c) (fun s => semVal ((c : Thread nD τ), xSem s) 0) W
end

section
omit [FloatOps F]
variable (t : Fin grid0.N)
theorem xSlot_of {o : Fin 4 → Nat} {s : Fin 3} (h : o = ![s.val, 0, 0, 0]) (i : ∀ a, o a + S1x128x200x128.size a ≤ S3x128x200x128.size a) :
    (xScr.slice (Rect.unit (s := S3x128x200x128) o S1x128x200x128.size i) (fun _ => rfl)).squeeze S128x200x128 squeezes_S1x128x200x128_S128x200x128 = xSlot s :=
  congrArg (fun M : Memref sig .tc .vmem S1x128x200x128 .f32 => M.squeeze S128x200x128 squeezes_S1x128x200x128_S128x200x128) (Memref.slice_unit_congr _ h _ _ (fun _ => rfl) (fun _ => rfl))
theorem xBlk_of {o : Fin 3 → Nat} {b : Fin 32} (h : o = ![128 * b.val, 0, 0]) (i : ∀ a, o a + S128x200x128.size a ≤ S4096x200x128.size a) :
    xArr.slice (Rect.unit (s := S4096x200x128) o S128x200x128.size i) (fun _ => rfl) = xBlk b :=
  Memref.slice_unit_congr _ h _ _ (fun _ => rfl) (fun _ => rfl)
theorem x_first (h : starts (grid0.coords t)) (j : ℕ) (hj : j < 3) :
    (![j, 0, 0, 0] : Fin 4 → Nat) = ![(Ring.sl 3 (t.val + j)).val, 0, 0, 0] ∧ (![128 * j, 0, 0] : Fin 3 → Nat) = ![128 * (Ring.bk 32 (t.val + j)).val, 0, 0] :=
  ⟨congrArg (fun k => ![k, 0, 0, 0]) (first_slot t h j hj), congrArg (fun k => ![k, 0, 0]) (first_row t h j (by omega))⟩
@[sl_canon] theorem xSlot_first0 (h : starts (grid0.coords t)) :
    (xScr.slice (Rect.unit (s := S3x128x200x128) ![0, 0, 0, 0] S1x128x200x128.size inb_S3x128x200x128_S1x128x200x128_0_0_0_0) (fun _ => rfl)).squeeze S128x200x128 squeezes_S1x128x200x128_S128x200x128 = xSlot (Ring.sl 3 t.val) :=
  xSlot_of (x_first t h 0 (by decide)).1 _
@[sl_canon] theorem xBlk_first0 (h : starts (grid0.coords t)) :
    xArr.slice (Rect.unit (s := S4096x200x128) ![0, 0, 0] S128x200x128.size inb_S4096x200x128_S128x200x128_0_0_0) (fun _ => rfl) = xBlk (Ring.bk 32 t.val) :=
  xBlk_of (x_first t h 0 (by decide)).2 _
@[sl_canon] theorem xSlot_first1 (h : starts (grid0.coords t)) :
    (xScr.slice (Rect.unit (s := S3x128x200x128) ![1, 0, 0, 0] S1x128x200x128.size inb_S3x128x200x128_S1x128x200x128_1_0_0_0) (fun _ => rfl)).squeeze S128x200x128 squeezes_S1x128x200x128_S128x200x128 = xSlot (Ring.sl 3 (t.val + 1)) :=
  xSlot_of (x_first t h 1 (by decide)).1 _
@[sl_canon] theorem xBlk_first1 (h : starts (grid0.coords t)) :
    xArr.slice (Rect.unit (s := S4096x200x128) ![128, 0, 0] S128x200x128.size inb_S4096x200x128_S128x200x128_128_0_0) (fun _ => rfl) = xBlk (Ring.bk 32 (t.val + 1)) :=
  xBlk_of (x_first t h 1 (by decide)).2 _
@[sl_canon] theorem xSlot_first2 (h : starts (grid0.coords t)) :
    (xScr.slice (Rect.unit (s := S3x128x200x128) ![2, 0, 0, 0] S1x128x200x128.size inb_S3x128x200x128_S1x128x200x128_2_0_0_0) (fun _ => rfl)).squeeze S128x200x128 squeezes_S1x128x200x128_S128x200x128 = xSlot (Ring.sl 3 (t.val + 2)) :=
  xSlot_of (x_first t h 2 (by decide)).1 _
@[sl_canon] theorem xBlk_first2 (h : starts (grid0.coords t)) :
    xArr.slice (Rect.unit (s := S4096x200x128) ![256, 0, 0] S128x200x128.size inb_S4096x200x128_S128x200x128_256_0_0) (fun _ => rfl) = xBlk (Ring.bk 32 (t.val + 2)) :=
  xBlk_of (x_first t h 2 (by decide)).2 _
@[sl_canon] theorem xSlot_wait :
    (xScr.slice (Rect.unit (s := S3x128x200x128) (k0_off2 (grid0.coords t)) S1x128x200x128.size (k0_off2_inb (grid0.coords t))) (fun _ => rfl)).squeeze S128x200x128 squeezes_S1x128x200x128_S128x200x128 = xSlot (Ring.sl 3 t.val) :=
  xSlot_of (off2_at t) _
@[sl_canon] theorem xSlot_next (h : feeds (grid0.coords t)) :
    (xScr.slice (Rect.unit (s := S3x128x200x128) (k0_off7 (grid0.coords t)) S1x128x200x128.size (k0_off7_inb (grid0.coords t) h)) (fun _ => rfl)).squeeze S128x200x128 squeezes_S1x128x200x128_S128x200x128 = xSlot (Ring.sl 3 t.val) :=
  xSlot_of (off2_at t) _
@[sl_canon] theorem xBlk_next (h : feeds (grid0.coords t)) :
    xArr.slice (Rect.unit (s := S4096x200x128) (k0_off8 (grid0.coords t)) S128x200x128.size (k0_off8_inb (grid0.coords t) h)) (fun _ => rfl) = xBlk (Ring.bk 32 (t.val + 3)) :=
  xBlk_of (off8_at t h) _
end

/-! ## The stream of the weights -/

theorem wSlot_inb (s : Fin 3) : ∀ a, (![s.val, 0, 0] : Fin 3 → Nat) a + S1x128x200.size a ≤ S3x128x200.size a := by
  have := s.isLt; intro a; fin_cases a <;> simp <;> omega
theorem wBlk_inb (b : Fin 32) : ∀ a, (![128 * b.val, 0] : Fin 2 → Nat) a + S128x200.size a ≤ S4096x200.size a := by
  have := b.isLt; intro a; fin_cases a <;> simp <;> omega
/-- Slot `s`, and block `b`: the rows from `128 b` on. -/
def wSlot (s : Fin 3) : Memref sig .tc .vmem S128x200 .f32 :=
  (wScr.slice (Rect.unit (s := S3x128x200) ![s.val, 0, 0] S1x128x200.size (wSlot_inb s)) (fun _ => rfl)).squeeze S128x200 squeezes_S1x128x200_S128x200
def wBlk (b : Fin 32) : Memref sig .tc .hbm S128x200 .f32 :=
  wArr.slice (Rect.unit (s := S4096x200) ![128 * b.val, 0] S128x200.size (wBlk_inb b)) (fun _ => rfl)

section
variable (c : Dev nD) (W : Cts (F := F) c wArr)

/-- A slot's part of the operand: whole, and but for the block `b`, and but for two blocks. -/
abbrev wAll (s : Fin 3) : sProp 𝕄 := ((c : Thread nD τ).loc main_arg1) ↦{part s} W
abbrev wBut (s : Fin 3) (b : Fin 32) : sProp 𝕄 := But (ℓ := (c : Thread nD τ).loc main_arg1) (wBlk b).view.set (part s) W
abbrev wBut₂ (s : Fin 3) (b b' : Fin 32) : sProp 𝕄 := But (ℓ := (c : Thread nD τ).loc main_arg1) ((wBlk b).view.set ∪ (wBlk b').view.set) (part s) W
/-- The states of a slot between steps. -/
def wIdle (s : Fin 3) : sProp 𝕄 := iprop(semVal ((c : Thread nD τ), wSem s) 0 ∗ (∃ f, Own c (wSlot s) f) ∗ wAll c W s)
def wBusy (s : Fin 3) (b : Fin 32) : sProp 𝕄 := iprop((∃ f, Way c (wSlot s) (wBlk b) (wSem s) (part s) W f) ∗ wBut c W s b)

theorem w_whole (s : Fin 3) (b : Fin 32) : wAll c W s ⊣⊢ iprop(Lend c (wBlk b) (part s) W ∗ wBut c W s b) :=
  but_whole (ℓ := (c : Thread nD τ).loc main_arg1) (wBlk b).view.set (part s) W
theorem w_one (s : Fin 3) {b b' : Fin 32} (h : b ≠ b') : wBut c W s b ⊣⊢ iprop(Lend c (wBlk b') (part s) W ∗ wBut₂ c W s b b') := by
  have e : ∀ b, (wBlk b).view.set = (Rect.unit (s := S4096x200) ![128 * b.val, 0] S128x200.size (wBlk_inb b)).set := fun b => View.set_slice_whole _ _
  refine but_one (ℓ := (c : Thread nD τ).loc main_arg1) ?_ (part s) W
  rw [e, e]
  exact Ring.lead_disjoint (s := S4096x200) (0 : Fin 2) 128 (fun b : Fin 32 => (![128 * b.val, 0] : Fin 2 → Nat)) S128x200.size wBlk_inb
    (fun b => by simp) rfl b b' h
theorem w_back (s : Fin 3) {b b' : Fin 32} (h : b ≠ b') : iprop(Lend c (wBlk b) (part s) W ∗ wBut₂ c W s b b') ⊢ wBut c W s b' := by
  have e : wBut₂ c W s b b' = wBut₂ c W s b' b :=
    congrArg (fun A => But (ℓ := (c : Thread nD τ).loc main_arg1) A (part s) W) (Finset.union_comm (wBlk b).view.set (wBlk b').view.set)
  rw [e]; exact (w_one c W s h.symm).2

abbrev wPart (s : Fin 3) : Finset S3x128x200.Idx := (Rect.unit (s := S3x128x200) ![s.val, 0, 0] S1x128x200.size (wSlot_inb s)).set
theorem wPart_apart (s s' : Fin 3) (h : s ≠ s') : Disjoint (wPart s) (wPart s') :=
  Ring.lead_disjoint (s := S3x128x200) (0 : Fin 3) 1 (fun s : Fin 3 => (![s.val, 0, 0] : Fin 3 → Nat)) S1x128x200.size wSlot_inb (fun s => by simp) rfl s s' h
theorem wPart_cover : Finset.univ.biUnion wPart = Finset.univ :=
  Ring.lead_cover (s := S3x128x200) (0 : Fin 3) 1 (fun s : Fin 3 => (![s.val, 0, 0] : Fin 3 → Nat)) S1x128x200.size wSlot_inb (fun s => by simp)
    (fun s a ha => by fin_cases a <;> first | exact absurd rfl ha | rfl) rfl
    (fun a ha => by fin_cases a <;> first | exact absurd rfl ha | rfl) rfl
theorem wOwn_eq (s : Fin 3) (f) : Own (F := F) c (wSlot s) f = (((c : Thread nD τ).loc cc0_scratch1) ↦[wPart s]{fullShare} f : sProp 𝕄) := by
  have e : (wSlot s).view.set = wPart s := by
    simp only [wSlot, Memref.view_squeeze, View.set_reshape]; exact View.set_slice_whole _ _
  unfold Own; rw [e]; rfl

/-- What the launch has for the stream: its scratch buffer, its cells at rest, its operand. -/
abbrev wKit : sProp 𝕄 := iprop((∃ d, owns (c : Thread nD τ) wScr fullShare d)
  ∗ (semVal ((c : Thread nD τ), SemLoc.dma 5) 0 ∗ semVal ((c : Thread nD τ), SemLoc.dma 6) 0 ∗ semVal ((c : Thread nD τ), SemLoc.dma 7) 0)
  ∗ held c wArr W)
abbrev wRing (k : ℕ) : sProp 𝕄 := ring (wIdle c W) (wBusy c W) k
/-- It is the stream before its first step, and it is there again after the last. -/
theorem w_enter : wKit c W ⊢ wRing c W 0 := by
  unfold wKit wRing
  rw [ring_first _ _ rfl, show Ring.sl 3 0 = 0 from rfl, show Ring.sl 3 (0 + 1) = 1 from rfl, show Ring.sl 3 (0 + 2) = 2 from rfl, ← wSem_eq.1, ← wSem_eq.2.1, ← wSem_eq.2.2]
  unfold wIdle
  simp only [wScr, owns_whole]
  exact deal (ℓs := (c : Thread nD τ).loc cc0_scratch1) (ℓ := (c : Thread nD τ).loc main_arg1) wPart wPart_apart wPart_cover (fun s f => Own c (wSlot s) f) (wOwn_eq c) (fun s => semVal ((c : Thread nD τ), wSem s) 0) W
theorem w_leave : wRing c W 32 ⊢ wKit c W := by
  unfold wKit wRing
  rw [ring_last, ← wSem_eq.1, ← wSem_eq.2.1, ← wSem_eq.2.2]
  unfold wIdle
  simp only [wScr, owns_whole]
  exact undeal (ℓs := (c : Thread nD τ).loc cc0_scratch1) (ℓ := (c : Thread nD τ).loc main_arg1) wPart wPart_apart wPart_cover (fun s f => Own c (wSlot s) f) (wOwn_eq c) (fun s => semVal ((c : Thread nD τ), wSem s) 0) W
end

section
omit [FloatOps F]
variable (t : Fin grid0.N)
theorem wSlot_of {o : Fin 3 → Nat} {s : Fin 3} (h : o = ![s.val, 0, 0]) (i : ∀ a, o a + S1x128x200.size a ≤ S3x128x200.size a) :
    (wScr.slice (Rect.unit (s := S3x128x200) o S1x128x200.size i) (fun _ => rfl)).squeeze S128x200 squeezes_S1x128x200_S128x200 = wSlot s :=
  congrArg (fun M : Memref sig .tc .vmem S1x128x200 .f32 => M.squeeze S128x200 squeezes_S1x128x200_S128x200) (Memref.slice_unit_congr _ h _ _ (fun _ => rfl) (fun _ => rfl))
theorem wBlk_of {o : Fin 2 → Nat} {b : Fin 32} (h : o = ![128 * b.val, 0]) (i : ∀ a, o a + S128x200.size a ≤ S4096x200.size a) :
    wArr.slice (Rect.unit (s := S4096x200) o S128x200.size i) (fun _ => rfl) = wBlk b :=
  Memref.slice_unit_congr _ h _ _ (fun _ => rfl) (fun _ => rfl)
theorem w_first (h : starts (grid0.coords t)) (j : ℕ) (hj : j < 3) :
    (![j, 0, 0] : Fin 3 → Nat) = ![(Ring.sl 3 (t.val + j)).val, 0, 0] ∧ (![128 * j, 0] : Fin 2 → Nat) = ![128 * (Ring.bk 32 (t.val + j)).val, 0] :=
  ⟨congrArg (fun k => ![k, 0, 0]) (first_slot t h j hj), congrArg (fun k => ![k, 0]) (first_row t h j (by omega))⟩
@[sl_canon] theorem wSlot_first0 (h : starts (grid0.coords t)) :
    (wScr.slice (Rect.unit (s := S3x128x200) ![0, 0, 0] S1x128x200.size inb_S3x128x200_S1x128x200_0_0_0) (fun _ => rfl)).squeeze S128x200 squeezes_S1x128x200_S128x200 = wSlot (Ring.sl 3 t.val) :=
  wSlot_of (w_first t h 0 (by decide)).1 _
@[sl_canon] theorem wBlk_first0 (h : starts (grid0.coords t)) :
    wArr.slice (Rect.unit (s := S4096x200) ![0, 0] S128x200.size inb_S4096x200_S128x200_0_0) (fun _ => rfl) = wBlk (Ring.bk 32 t.val) :=
  wBlk_of (w_first t h 0 (by decide)).2 _
@[sl_canon] theorem wSlot_first1 (h : starts (grid0.coords t)) :
    (wScr.slice (Rect.unit (s := S3x128x200) ![1, 0, 0] S1x128x200.size inb_S3x128x200_S1x128x200_1_0_0) (fun _ => rfl)).squeeze S128x200 squeezes_S1x128x200_S128x200 = wSlot (Ring.sl 3 (t.val + 1)) :=
  wSlot_of (w_first t h 1 (by decide)).1 _
@[sl_canon] theorem wBlk_first1 (h : starts (grid0.coords t)) :
    wArr.slice (Rect.unit (s := S4096x200) ![128, 0] S128x200.size inb_S4096x200_S128x200_128_0) (fun _ => rfl) = wBlk (Ring.bk 32 (t.val + 1)) :=
  wBlk_of (w_first t h 1 (by decide)).2 _
@[sl_canon] theorem wSlot_first2 (h : starts (grid0.coords t)) :
    (wScr.slice (Rect.unit (s := S3x128x200) ![2, 0, 0] S1x128x200.size inb_S3x128x200_S1x128x200_2_0_0) (fun _ => rfl)).squeeze S128x200 squeezes_S1x128x200_S128x200 = wSlot (Ring.sl 3 (t.val + 2)) :=
  wSlot_of (w_first t h 2 (by decide)).1 _
@[sl_canon] theorem wBlk_first2 (h : starts (grid0.coords t)) :
    wArr.slice (Rect.unit (s := S4096x200) ![256, 0] S128x200.size inb_S4096x200_S128x200_256_0) (fun _ => rfl) = wBlk (Ring.bk 32 (t.val + 2)) :=
  wBlk_of (w_first t h 2 (by decide)).2 _
@[sl_canon] theorem wSlot_wait :
    (wScr.slice (Rect.unit (s := S3x128x200) (k0_off3 (grid0.coords t)) S1x128x200.size (k0_off3_inb (grid0.coords t))) (fun _ => rfl)).squeeze S128x200 squeezes_S1x128x200_S128x200 = wSlot (Ring.sl 3 t.val) :=
  wSlot_of (off3_at t) _
@[sl_canon] theorem wSlot_next (h : feeds (grid0.coords t)) :
    (wScr.slice (Rect.unit (s := S3x128x200) (k0_off9 (grid0.coords t)) S1x128x200.size (k0_off9_inb (grid0.coords t) h)) (fun _ => rfl)).squeeze S128x200 squeezes_S1x128x200_S128x200 = wSlot (Ring.sl 3 t.val) :=
  wSlot_of (off3_at t) _
@[sl_canon] theorem wBlk_next (h : feeds (grid0.coords t)) :
    wArr.slice (Rect.unit (s := S4096x200) (k0_off10 (grid0.coords t)) S128x200.size (k0_off10_inb (grid0.coords t) h)) (fun _ => rfl) = wBlk (Ring.bk 32 (t.val + 3)) :=
  wBlk_of (off10_at t h) _
end

/-! ## A step, as the runs prove it -/

/-- What step `t` loads from its slots: the blocks that arrived there. -/
def xGet (c : Dev nD) (t : Fin grid0.N) (X : Cts (F := F) c xArr) : Vec F S1x128x200x128 .f32 :=
  View.readAt (Elt F) xScr.view (Rect.unit (s := S3x128x200x128) (k0_off4 (grid0.coords t)) S1x128x200x128.size (k0_off4_inb (grid0.coords t))).toLoadRect
    (Got c (xSlot (Ring.sl 3 t.val)) (xBlk (Ring.bk 32 t.val)) X (xSlot (Ring.sl 3 t.val)).view.junk)
def wGet (c : Dev nD) (t : Fin grid0.N) (W : Cts (F := F) c wArr) : Vec F S1x128x200 .f32 :=
  View.readAt (Elt F) wScr.view (Rect.unit (s := S3x128x200) (k0_off5 (grid0.coords t)) S1x128x200.size (k0_off5_inb (grid0.coords t))).toLoadRect
    (Got c (wSlot (Ring.sl 3 t.val)) (wBlk (Ring.bk 32 t.val)) W (wSlot (Ring.sl 3 t.val)).view.junk)
/-- What it writes to its output block: all of it, the averages. -/
def put (c : Dev nD) (t : Fin grid0.N) (X : Cts (F := F) c xArr) (W : Cts (F := F) c wArr) : List (View.Piece (Elt F) S128x128 .f32) :=
  [⟨Rect.unit (s := S128x128) ![0, 0] S128x128.size inb_S128x128_S128x128_0_0, k0_pay1 (xGet c t X) (wGet c t W)⟩]

/-- Step `t` runs, on any whole output block `o`: it takes both streams from before it to after it and writes `put`. -/
def Step (c : Dev nD) (t : Fin grid0.N) (X : Cts (F := F) c xArr) (W : Cts (F := F) c wArr) : Prop :=
  ∀ (o : Memref sig .tc .vmem S128x128 .f32) (ho : o.IsWhole) (U : Waits sig Unit) (K : PUnit → sProp 𝕄),
    iprop((∃ d, owns (c : Thread nD τ) o fullShare d) ∗ xRing c X t.val ∗ wRing c W t.val ∗ owes (c : Thread nD τ) 0 U
        ∗ (iprop((∃ f, o.view.loc (c : Thread nD τ) ↦[o.view.set]{fullShare} o.view.writes (Elt F) f (put c t X W))
            ∗ xRing c X (t.val + 1) ∗ wRing c W (t.val + 1) ∗ (∃ U', owes (c : Thread nD τ) 0 U')) -∗ K ⟨⟩))
      ⊢ wp frame (wpE (defs₀ (F := F)) Variants.none c none) Set.univ
          (cc0__tc_body (grid0.coords t) (Memref.whole main_arg0) (Memref.isWhole_whole _) (Memref.whole main_arg1) (Memref.isWhole_whole _)
            o ho xScr (Memref.isWhole_whole _) wScr (Memref.isWhole_whole _) cc0_scratch2 cc0_scratch3) K

/-- The block a step starts is not the block it reads. -/
theorem ahead (t : Fin grid0.N) (h : t.val < 29) : Ring.bk 32 t.val ≠ Ring.bk 32 (t.val + 3) := by
  intro e; have := congrArg Fin.val e; simp only [Ring.bk, Fin.ofNat] at this; omega

end Cert.WAvg

end
-- ==== Proof.StepFirst.lean ====
/- The first step: the kernel starts the first three blocks, waits for its own, averages it, and starts the fourth. -/
module

public import proofs.«01_k».proof.Proof.Ring

@[expose] public section

set_option maxRecDepth 16384

noncomputable section

namespace Cert.WAvg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option maxHeartbeats 1000000 in
theorem step_first (c : Dev nD) (t : Fin grid0.N) (hs : starts (grid0.coords t)) (hf : feeds (grid0.coords t))
    (X : Cts (F := F) c xArr) (W : Cts (F := F) c wArr) : Step c t X W := by
  intro o ho U K
  have h0 : t.val = 0 := (starts_iff t).1 hs
  have h29 : t.val < 29 := (feeds_iff t).1 hf
  have hne := ahead t h29
  rw [xRing, wRing, ring_first _ _ h0, ring_first _ _ h0, xRing, wRing, ring_fed _ _ (show t.val + 3 < 32 by omega), ring_fed _ _ (show t.val + 3 < 32 by omega),
    role_busy _ _ (show t.val + 1 < 32 by omega), role_busy _ _ (show t.val + 1 < 32 by omega), role_busy _ _ (show t.val + 2 < 32 by omega),
    role_busy _ _ (show t.val + 2 < 32 by omega)]
  haveI : Fact (starts (grid0.coords t)) := ⟨hs⟩
  haveI : Fact (feeds (grid0.coords t)) := ⟨hf⟩
  simp -proj only [cc0__tc_body_eq_skeleton]; unfold cc0__tc_body_skel
  simp -proj only [k0_part2_eq_skeleton, k0_part1_eq_skeleton, dif_pos hf, dif_pos hs]
  unfold owns xIdle wIdle xBusy wBusy
  iintro ⟨⟨%d, %f, -, O⟩, ⟨⟨SX0, ⟨%fX0, X0⟩, Xr0⟩, ⟨SX1, ⟨%fX1, X1⟩, Xr1⟩, ⟨SX2, ⟨%fX2, X2⟩, Xr2⟩⟩, ⟨⟨SV0, ⟨%fV0, V0⟩, Vr0⟩, ⟨SV1, ⟨%fV1, V1⟩, Vr1⟩, ⟨SV2, ⟨%fV2, V2⟩, Vr2⟩⟩, HW, Hk⟩
  ihave T := (x_whole c X (Ring.sl 3 t.val) (Ring.bk 32 t.val)).1 $$ Xr0
  icases T with ⟨Xb0, Xr0⟩
  ihave T := (x_whole c X (Ring.sl 3 (t.val + 1)) (Ring.bk 32 (t.val + 1))).1 $$ Xr1
  icases T with ⟨Xb1, Xr1⟩
  ihave T := (x_whole c X (Ring.sl 3 (t.val + 2)) (Ring.bk 32 (t.val + 2))).1 $$ Xr2
  icases T with ⟨Xb2, Xr2⟩
  ihave T := (x_one c X (Ring.sl 3 t.val) hne).1 $$ Xr0
  icases T with ⟨Xb3, Xr0⟩
  ihave T := (w_whole c W (Ring.sl 3 t.val) (Ring.bk 32 t.val)).1 $$ Vr0
  icases T with ⟨Vb0, Vr0⟩
  ihave T := (w_whole c W (Ring.sl 3 (t.val + 1)) (Ring.bk 32 (t.val + 1))).1 $$ Vr1
  icases T with ⟨Vb1, Vr1⟩
  ihave T := (w_whole c W (Ring.sl 3 (t.val + 2)) (Ring.bk 32 (t.val + 2))).1 $$ Vr2
  icases T with ⟨Vb2, Vr2⟩
  ihave T := (w_one c W (Ring.sl 3 t.val) hne).1 $$ Vr0
  icases T with ⟨Vb3, Vr0⟩
  sl_exec (disch := first | sl_exact hs | sl_exact hf)
  sl_step
  iapply Hk
  isplitl [O]; · iexists _; iexact O
  isplitl [SX0 SX1 SX2 Xr0 Xr1 Xr2 Xb0]
  · isplitl [SX1 Xr1]
    · isplitl [SX1]; · iexists _; iexact SX1
      iexact Xr1
    isplitl [SX2 Xr2]
    · isplitl [SX2]; · iexists _; iexact SX2
      iexact Xr2
    isplitl [SX0]; · iexists _; iexact SX0
    iapply (x_back c X (Ring.sl 3 t.val) hne)
    isplitl [Xb0]; · iexact Xb0
    iexact Xr0
  isplitl [SV0 SV1 SV2 Vr0 Vr1 Vr2 Vb0]
  · isplitl [SV1 Vr1]
    · isplitl [SV1]; · iexists _; iexact SV1
      iexact Vr1
    isplitl [SV2 Vr2]
    · isplitl [SV2]; · iexists _; iexact SV2
      iexact Vr2
    isplitl [SV0]; · iexists _; iexact SV0
    iapply (w_back c W (Ring.sl 3 t.val) hne)
    isplitl [Vb0]; · iexact Vb0
    iexact Vr0
  iexists _; iexact HW

end Cert.WAvg

end
-- ==== Proof.StepMid.lean ====
/- A step in the middle: the kernel waits for its block, averages it, and starts the block three ahead. -/
module

public import proofs.«01_k».proof.Proof.Ring

@[expose] public section

set_option maxRecDepth 16384

noncomputable section

namespace Cert.WAvg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option maxHeartbeats 1000000 in
theorem step_mid (c : Dev nD) (t : Fin grid0.N) (hs : ¬starts (grid0.coords t)) (hf : feeds (grid0.coords t))
    (X : Cts (F := F) c xArr) (W : Cts (F := F) c wArr) : Step c t X W := by
  intro o ho U K
  have h1 : 1 ≤ t.val := Nat.one_le_iff_ne_zero.2 fun h => hs ((starts_iff t).2 h)
  have h29 : t.val < 29 := (feeds_iff t).1 hf
  have hne := ahead t h29
  rw [xRing, wRing, ring_pos _ _ h1, ring_pos _ _ h1, role_busy _ _ (show t.val < 32 by omega), role_busy _ _ (show t.val < 32 by omega),
    xRing, wRing, ring_fed _ _ (show t.val + 3 < 32 by omega), ring_fed _ _ (show t.val + 3 < 32 by omega)]
  haveI : Fact (¬starts (grid0.coords t)) := ⟨hs⟩
  haveI : Fact (feeds (grid0.coords t)) := ⟨hf⟩
  simp -proj only [cc0__tc_body_eq_skeleton]; unfold cc0__tc_body_skel
  simp -proj only [k0_part2_eq_skeleton, k0_part1_eq_skeleton, dif_pos hf]
  unfold owns xBusy wBusy
  iintro ⟨⟨%d, %f, -, O⟩, ⟨⟨⟨%fx, X⟩, Xr⟩, X1, X2⟩, ⟨⟨⟨%fw, V⟩, Vr⟩, V1, V2⟩, HW, Hk⟩
  ihave Xs := (x_one c X (Ring.sl 3 t.val) hne).1 $$ Xr
  icases Xs with ⟨Xb, Xr⟩
  ihave Vs := (w_one c W (Ring.sl 3 t.val) hne).1 $$ Vr
  icases Vs with ⟨Vb, Vr⟩
  sl_exec (disch := first | sl_exact hs | sl_exact hf)
  sl_step
  iapply Hk
  isplitl [O]; · iexists _; iexact O
  isplitl [X X1 X2 Xr X_src]
  · isplitl [X1]; · iexact X1
    isplitl [X2]; · iexact X2
    isplitl [X]; · iexists _; iexact X
    iapply (x_back c X (Ring.sl 3 t.val) hne)
    isplitl [X_src]; · iexact X_src
    iexact Xr
  isplitl [V V1 V2 Vr V_src]
  · isplitl [V1]; · iexact V1
    isplitl [V2]; · iexact V2
    isplitl [V]; · iexists _; iexact V
    iapply (w_back c W (Ring.sl 3 t.val) hne)
    isplitl [V_src]; · iexact V_src
    iexact Vr
  iexists _; iexact HW

end Cert.WAvg

end
-- ==== Proof.StepLast.lean ====
/- One of the last steps: the kernel waits for its block and averages it; no block is left to start. -/
module

public import proofs.«01_k».proof.Proof.Ring

@[expose] public section

set_option maxRecDepth 16384

noncomputable section

namespace Cert.WAvg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option maxHeartbeats 1000000 in
theorem step_last (c : Dev nD) (t : Fin grid0.N) (hs : ¬starts (grid0.coords t)) (hf : ¬feeds (grid0.coords t))
    (X : Cts (F := F) c xArr) (W : Cts (F := F) c wArr) : Step c t X W := by
  intro o ho U K
  have h1 : 1 ≤ t.val := Nat.one_le_iff_ne_zero.2 fun h => hs ((starts_iff t).2 h)
  have h29 : 29 ≤ t.val := Nat.not_lt.1 fun h => hf ((feeds_iff t).2 h)
  have h32 : t.val < 32 := N_0 ▸ t.isLt
  rw [xRing, wRing, ring_pos _ _ h1, ring_pos _ _ h1, role_busy _ _ h32, role_busy _ _ h32,
    xRing, wRing, ring_spent _ _ (show 32 ≤ t.val + 3 by omega), ring_spent _ _ (show 32 ≤ t.val + 3 by omega)]
  haveI : Fact (¬starts (grid0.coords t)) := ⟨hs⟩
  haveI : Fact (¬feeds (grid0.coords t)) := ⟨hf⟩
  simp -proj only [cc0__tc_body_eq_skeleton]; unfold cc0__tc_body_skel
  simp -proj only [k0_part2_eq_skeleton, k0_part1_eq_skeleton, dif_neg hf]
  unfold owns xBusy wBusy xIdle wIdle
  iintro ⟨⟨%d, %f, -, O⟩, ⟨⟨⟨%fx, X⟩, Xr⟩, X1, X2⟩, ⟨⟨⟨%fw, V⟩, Vr⟩, V1, V2⟩, HW, Hk⟩
  sl_exec (disch := first | sl_exact hs | sl_exact hf)
  sl_step
  iapply Hk
  isplitl [O]; · iexists _; iexact O
  isplitl [X X1 X2 Xr X_src X_dst]
  · isplitl [X1]; · iexact X1
    isplitl [X2]; · iexact X2
    isplitl [X]; · iexact X
    isplitl [X_dst]; · iexists _; iexact X_dst
    iapply (x_whole c X (Ring.sl 3 t.val) (Ring.bk 32 t.val)).2
    isplitl [X_src]; · iexact X_src
    iexact Xr
  isplitl [V V1 V2 Vr V_src V_dst]
  · isplitl [V1]; · iexact V1
    isplitl [V2]; · iexact V2
    isplitl [V]; · iexact V
    isplitl [V_dst]; · iexists _; iexact V_dst
    iapply (w_whole c W (Ring.sl 3 t.val) (Ring.bk 32 t.val)).2
    isplitl [V_src]; · iexact V_src
    iexact Vr
  iexists _; iexact HW

end Cert.WAvg

end
-- ==== Proof.Run.lean ====
/- The whole run: the three kinds of step put together, the launch around them, and what the machine holds at the end. -/
module

public import proofs.«01_k».proof.Proof.StepFirst
public import proofs.«01_k».proof.Proof.StepMid
public import proofs.«01_k».proof.Proof.StepLast
public import Idealize.ShloMosaic.Lib.VecWindow
public import Idealize.ShloMosaic.Lib.Claim

@[expose] public section

set_option maxRecDepth 16384

noncomputable section

namespace Cert.WAvg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen
open Idealize.ShloMosaic.Pipeline (Dat BodyObligation)

variable {F : FTy → Type} [FloatOps F]

local notation "𝕄" => MT nD τ sig Unit (Elt F) ℕ (Pipeline.UD sig nD τ) ℕ

/-! ## Every step -/

/-- Whatever step it is, it runs. -/
theorem step (c : Dev nD) (t : Fin grid0.N) (X : Cts (F := F) c xArr) (W : Cts (F := F) c wArr) : Step c t X W := by
  by_cases hf : feeds (grid0.coords t)
  · by_cases hs : starts (grid0.coords t)
    · exact step_first c t hs hf X W
    · exact step_mid c t hs hf X W
  · exact step_last c t (fun hs => hf ((feeds_iff t).2 (by have := (starts_iff t).1 hs; omega))) hf X W

variable (m : (ℓ : Loc nD τ sig) → Buf (Elt F) ℓ) (ρ : Dev nD → PrngReg)

/-! ## The launch -/

/-- What a core's buffers hold when the kernel starts: what they held at the start. -/
abbrev at₀ (c : Dev nD) (b : Ref sig .tc) : Buf (Elt F) ((c : Thread nD τ).loc b) := m ((c : Thread nD τ).loc b)

set_option maxHeartbeats 800000 in
theorem only_region (𝒱₀ : Variants) :
    Pipeline.HMain (Ix := Unit) (Name := ℕ) (U := Pipeline.UD sig nD τ) (Lvl := ℕ) cfgs 0 defs₀ 𝒱₀ m (main (F := F)) (at₀ m) :=
  Pipeline.hmain_region cfgs 0 defs₀ 𝒱₀ m main fun c => (main_chain c).trans rfl

/-- The kernel's own semaphore cells. -/
abbrev cells : Fin 6 → SemLoc sig := fun j => (![SemLoc.dma 2, SemLoc.dma 3, SemLoc.dma 4, SemLoc.dma 5, SemLoc.dma 6, SemLoc.dma 7] : Fin 6 → SemLoc sig) j
theorem cells_own : Pipeline.OwnSemFacts spec0 cells := by decide
/-- The operands it reads by itself. -/
def operands : Finset (Ref sig .tc) := {main_arg0, main_arg1}
theorem operands_sub : operands ⊆ Pipeline.restRefs sig spec0 := by decide

/-- What the launch hands the steps is the generator register and both streams' kits. -/
theorem handed (c : Dev nD) :
    (Pipeline.ΦD cells spec0 operands (at₀ m) c : sProp 𝕄)
      ⊣⊢ iprop((∃ r, prngReg c r) ∗ xKit c (at₀ m c main_arg0) ∗ wKit c (at₀ m c main_arg1)) := by
  have e : (Pipeline.ownSems0 (Ix := Unit) (Name := ℕ) (U := Pipeline.UD sig nD τ) (Lvl := ℕ) (Val := Elt F) (τ := τ) cells c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
    rw [Pipeline.ownSems0_eq_of_list c cells [0, 1, 2, 3, 4, 5] (by decide) (by decide)]; rfl
  have e' : (bigSep operands (fun b => ((c : Thread nD τ).loc b) ↦{fullShare} at₀ m c b) : sProp 𝕄)
      = iprop(held c xArr (at₀ m c main_arg0) ∗ held c wArr (at₀ m c main_arg1)) := by
    rw [BI.bigSep_eq_bigSepL_of_eq [main_arg0, main_arg1] (by decide) (by decide)]; rfl
  rw [Pipeline.ΦD_eq, scopedRest0_eq, e, e']
  unfold xKit wKit
  simp only [xScr, wScr, owns_whole]
  refine ⟨?_, ?_⟩
  · iintro ⟨⟨A, B⟩, R, ⟨C₀, C₁, C₂, D₀, D₁, D₂⟩, ⟨E, G⟩⟩
    isplitl [R]; · iexact R
    isplitl [A C₀ C₁ C₂ E]
    · isplitl [A]; · iexact A
      isplitl [C₀ C₁ C₂]
      · isplitl [C₀]; · iexact C₀
        isplitl [C₁]; · iexact C₁
        iexact C₂
      iexact E
    isplitl [B]; · iexact B
    isplitl [D₀ D₁ D₂]
    · isplitl [D₀]; · iexact D₀
      isplitl [D₁]; · iexact D₁
      iexact D₂
    iexact G
  · iintro ⟨R, ⟨A, ⟨C₀, C₁, C₂⟩, E⟩, ⟨B, ⟨D₀, D₁, D₂⟩, G⟩⟩
    isplitl [A B]
    · isplitl [A]; · iexact A
      iexact B
    isplitl [R]; · iexact R
    isplitl [C₀ C₁ C₂ D₀ D₁ D₂]
    · isplitl [C₀]; · iexact C₀
      isplitl [C₁]; · iexact C₁
      isplitl [C₂]; · iexact C₂
      isplitl [D₀]; · iexact D₀
      isplitl [D₁]; · iexact D₁
      iexact D₂
    isplitl [E]; · iexact E
    iexact G

/-! ## What holds between steps -/

/-- The block of averages that step `t` computes. -/
def avg (c : Dev nD) (t : Fin grid0.N) : Vec F S128x128 .f32 := k0_pay1 (xGet c t (at₀ m c main_arg0)) (wGet c t (at₀ m c main_arg1))

/-- Before step `k`: the register at anything, both streams where they are before that step. -/
def mid (c : Dev nD) (k : ℕ) : sProp 𝕄 :=
  iprop((∃ r, prngReg c r) ∗ xRing c (at₀ m c main_arg0) k ∗ wRing c (at₀ m c main_arg1) k)

/-- What the launch rule asks for: the arrays at the start, the output block after each step, what holds between steps. -/
def data (_ : Fin 1) (c : Dev nD) : Dat τ (Elt F) Unit ℕ (Pipeline.UD sig nD τ) ℕ cfg0 c where
  A w := at₀ m c (Pipeline.arrRef spec0 w)
  after w t := match w with
    | ⟨0, _⟩ => avg m c t
  Φ t := mid m c t.val
  q _ := fullShare
  owed _ := 0

theorem data_after (c : Dev nD) (t : Fin cfg0.N) : (data m 0 c).after 0 t = avg m c t := by dsimp only [data]
theorem data_before (c : Dev nD) (t : Fin cfg0.N) : (data m 0 c).Φ t.castSucc = mid m c t.val := by dsimp only [data]; simp only [Fin.val_castSucc]
theorem data_next (c : Dev nD) (t : Fin cfg0.N) : (data m 0 c).Φ t.succ = mid m c (t.val + 1) := by dsimp only [data]; simp only [Fin.val_succ]

/-- The output block's buffer at step `t`. -/
abbrev outAt (t : Fin cfg0.N) : Memref sig .tc .vmem S128x128 .f32 := win0_0.stage (cfg0.slots t 0)

set_option maxHeartbeats 1000000 in
/-- A step as the launch rule asks for it. -/
theorem step_between (c : Dev nD) (t : Fin cfg0.N) :
    iprop((data m 0 c).Φ t.castSucc ∗ (data m 0 c).owesAt () t.castSucc
        ∗ (∃ d, owns (c : Thread nD τ) (outAt t) fullShare ((data m 0 c).before 0 t d)))
      ⊢ wp frame (wpE (defs₀ (F := F)) Variants.none c none) Set.univ (bodyAt0 t)
          (fun _ => iprop((data m 0 c).Φ t.succ ∗ (data m 0 c).owesAt () t.succ
            ∗ owns (c : Thread nD τ) (outAt t) fullShare ((data m 0 c).after 0 t))) := by
  unfold bodyAt0
  rw [data_after, data_before, data_next]
  unfold Dat.owesAt Pipeline.owesWithin
  rw [show (data m 0 c).owed t.castSucc = 0 from rfl, show (data m 0 c).owed t.succ = 0 from rfl]
  unfold mid
  iintro ⟨⟨R, X, V⟩, ⟨%U, -, HW⟩, ⟨%d, O⟩⟩
  iapply (step c t (at₀ m c main_arg0) (at₀ m c main_arg1) _ _ U _)
  isplitl [O]; · iexists _; iexact O
  isplitl [X]; · iexact X
  isplitl [V]; · iexact V
  isplitl [HW]; · iexact HW
  iintro ⟨⟨%e, O⟩, X, V, ⟨%U', HW⟩⟩
  isplitl [R X V]
  · isplitl [R]; · iexact R
    isplitl [X]; · iexact X
    iexact V
  isplitl [HW]
  · iexists U'; isplitr; · ipureintro; exact fun _ _ => Or.inl trivial
    iexact HW
  unfold owns; iexists _; isplitr
  swap; · iexact O
  ipureintro; exact View.read_writes_full _ _ _ _ _

theorem row (t : Fin cfg0.N) : defs₀ (F := F) .tc cfg0.body (cfg0.bodyArgs t (cfg0.slots t)) = bodyAt0 t := by
  unfold defs₀; rw [Defs.onTc_tc]

theorem every_step (c : Dev nD) : BodyObligation (data (F := F) m 0 c) (defs₀ (F := F)) Variants.none () Set.univ := fun t => by
  rw [bigSep_W0, bigSep_W0, row]
  exact triple_restated (step_between m c t) rfl .rfl fun _ => .rfl

theorem enter (c : Dev nD) : Pipeline.ΦD cells spec0 operands (at₀ m) c ⊢ (data m 0 c).Φ 0 := by
  rw [show (data m 0 c).Φ 0 = mid m c 0 from rfl]
  unfold mid
  iintro H
  ihave H := (handed m c).1 $$ H
  icases H with ⟨R, X, V⟩
  isplitl [R]; · iexact R
  isplitl [X]; · iapply (x_enter (F := F) c (at₀ m c main_arg0)); iexact X
  iapply (w_enter (F := F) c (at₀ m c main_arg1)); iexact V

theorem leave (c : Dev nD) : (data m 0 c).Φ (Fin.last cfg0.N) ⊢ Pipeline.ΦD cells spec0 operands (at₀ m) c := by
  rw [show (data m 0 c).Φ (Fin.last cfg0.N) = mid m c grid0.N from rfl, show grid0.N = 32 by rw [N_0]]
  unfold mid
  iintro ⟨R, X, V⟩
  iapply (handed m c).2
  isplitl [R]; · iexact R
  isplitl [X]; · iapply (x_leave (F := F) c (at₀ m c main_arg0)); iexact X
  iapply (w_leave (F := F) c (at₀ m c main_arg1)); iexact V

/-! ## The run -/

-- the rule's arguments are found from its conclusion, which takes unfolding
set_option backward.isDefEq.respectTransparency.types false in
/-- Every execution ends, with the arrays as the data says and every semaphore counter back at zero. -/
theorem run : θ_run defs (onTc (τ := τ) (main (F := F))) (s₀ m ρ) (fun r => (Pipeline.FramePost cfgs (data m) 0 (at₀ m)) r ∧ r.2.sem = fun _ => 0) :=
  Pipeline.θ_run_frame_dma (Q' := _) cfgs (data m) (0 : Fin 1) launch0 cells defs₀ Variants.none cells_own operands operands_sub m ρ main
    (hbody := fun c => (every_step m c).loose) (hshare := fun c => (data m 0 c).share_full fun _ => rfl)
    (howed := fun _ _ => rfl) (V := at₀ m) (hmain := only_region m Variants.none) (hA := fun c w => by dsimp only [data])
    (hin := enter m) (hout := leave m)

/-- So the result array is what the steps wrote back, and the operands are as they were. -/
theorem ends : θ_run defs (onTc (τ := τ) (main (F := F))) ⟨m, fun _ => 0, ρ⟩ (fun r => (∀ c : Dev nD,
      r.2.mem ((c.tc : Thread nD τ).loc main_v0) = (data m 0 c).arrAt 0 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1 0,
      (h.1 c).2 main_arg0 (Pipeline.mem_restRefs_of main_arg0 (by decide) (by decide)),
      (h.1 c).2 main_arg1 (Pipeline.mem_restRefs_of main_arg1 (by decide) (by decide))⟩, h.2⟩) (run m ρ)

end Cert.WAvg

end
-- ==== Proof.Block.lean ====
/- What a step computes, element by element: its block of averages from the two operands. -/
module

public import proofs.«01_k».proof.Proof.Run
public import Idealize.ShloMosaic.Lib.Pipeline.Value
public import Idealize.ShloMosaic.Lib.Pointwise

@[expose] public section

set_option maxRecDepth 16384

noncomputable section

namespace Cert.WAvg

open Idealize.ShloMosaic Idealize.ShloMosaic.TcCoe
open Idealize.SL Idealize.SL.Sem
open Cert.KernelIdeal Cert.KernelIdeal.Gen
open Idealize.ShloMosaic.Pipeline (Dat)

variable {F : FTy → Type} [FloatOps F]

/-- What is read back after one write of everything is what was written. -/
theorem read_all {sp : Space} {S : Shape} {e : EltTy} (v : View sig .tc sp S e) (f : v.ty.Contents (Elt F)) (w : S.Idx → Elt F e) :
    v.read (Elt F) (v.writes (Elt F) f [⟨Rect.whole S, w⟩]) = w := by
  funext y
  have := View.read_writes_cons_emb v f (Rect.whole S) w [] y
  rwa [Rect.emb_whole_apply] at this

/-- Row `r` of block `t`, among all rows. -/
abbrev rowOf (t : Fin grid0.N) (r : Fin 128) : Fin 4096 := ⟨128 * t.val + r.val, by have := t.isLt; have := N_0; have := r.isLt; omega⟩

/-- The block a step reads is the one of its own number. -/
theorem bk_at (t : Fin grid0.N) : (Ring.bk 32 t.val).val = t.val := Nat.mod_eq_of_lt (N_0 ▸ t.isLt)

/-- Two unit rectangles of the same offsets and sizes place an index alike. -/
theorem emb_of_off {S : Shape} {o o' size : Fin S.rank → ℕ} (h : o = o') (i : ∀ a, o a + size a ≤ S.size a) (i' : ∀ a, o' a + size a ≤ S.size a)
    (x : (Rect.unit o size i).shape.Idx) : (Rect.unit o size i).emb x = (Rect.unit o' size i').emb x := by subst h; rfl

/-- What step `t` reads of the entries is block `t`: the slot holds what the copy of that block brought. -/
theorem xGet_at (c : Dev nD) (t : Fin grid0.N) (X : Cts (F := F) c xArr) (r : Fin 128) (s : Fin 200) (d : Fin 128) :
    xGet c t X (ix4 0 r s d) = X (ix3 (rowOf t r) s d) := by
  have h := congrFun (read_all (xSlot (Ring.sl 3 t.val)).view (xSlot (Ring.sl 3 t.val)).view.junk ((xBlk (Ring.bk 32 t.val)).view.read (Elt F) X)) (ix3 r s d)
  have e : (xSlot (Ring.sl 3 t.val)).view.emb (ix3 r s d) = (Rect.unit (s := S3x128x200x128) (k0_off4 (grid0.coords t)) S1x128x200x128.size (k0_off4_inb (grid0.coords t))).emb (ix4 0 r s d) := by
    rw [emb_of_off (off2_at t) _ (xSlot_inb _)]
    exact congrArg (Rect.unit (s := S3x128x200x128) ![(Ring.sl 3 t.val).val, 0, 0, 0] S1x128x200x128.size (xSlot_inb _)).emb
      (Shape.reshapeEquiv_eq_of_rowMajor (s := S1x128x200x128) (s' := S128x200x128) _ (by rw [Shape.rowMajor_val_four, Shape.rowMajor_val_three]; simp [ix3, ix4]))
  have e' : (xBlk (Ring.bk 32 t.val)).view.emb (ix3 r s d) = ix3 (rowOf t r) s d := by
    funext a; apply Fin.ext
    show (![128 * (Ring.bk 32 t.val).val, 0, 0] : Fin 3 → ℕ) a + 1 * (ix3 r s d a).val = _
    rw [bk_at]; fin_cases a <;> simp [ix3, rowOf] <;> rfl
  have k : ∀ G : Cts (F := F) c xScr, View.readAt (Elt F) xScr.view (Rect.unit (s := S3x128x200x128) (k0_off4 (grid0.coords t)) S1x128x200x128.size (k0_off4_inb (grid0.coords t))).toLoadRect G (ix4 0 r s d)
      = (xSlot (Ring.sl 3 t.val)).view.read (Elt F) G (ix3 r s d) := fun G => congrArg G e.symm
  exact (k _).trans (h.trans (congrArg X e'))

/-- The same of the weights. -/
theorem wGet_at (c : Dev nD) (t : Fin grid0.N) (W : Cts (F := F) c wArr) (r : Fin 128) (s : Fin 200) :
    wGet c t W (ix3 0 r s) = W (ix2 (rowOf t r) s) := by
  have h := congrFun (read_all (wSlot (Ring.sl 3 t.val)).view (wSlot (Ring.sl 3 t.val)).view.junk ((wBlk (Ring.bk 32 t.val)).view.read (Elt F) W)) (ix2 r s)
  have e : (wSlot (Ring.sl 3 t.val)).view.emb (ix2 r s) = (Rect.unit (s := S3x128x200) (k0_off5 (grid0.coords t)) S1x128x200.size (k0_off5_inb (grid0.coords t))).emb (ix3 0 r s) := by
    rw [emb_of_off (off3_at t) _ (wSlot_inb _)]
    exact congrArg (Rect.unit (s := S3x128x200) ![(Ring.sl 3 t.val).val, 0, 0] S1x128x200.size (wSlot_inb _)).emb
      (Shape.reshapeEquiv_eq_of_rowMajor (s := S1x128x200) (s' := S128x200) _ (by rw [Shape.rowMajor_val_three, Shape.rowMajor_val_two]; simp [ix2, ix3]))
  have e' : (wBlk (Ring.bk 32 t.val)).view.emb (ix2 r s) = ix2 (rowOf t r) s := by
    funext a; apply Fin.ext
    show (![128 * (Ring.bk 32 t.val).val, 0] : Fin 2 → ℕ) a + 1 * (ix2 r s a).val = _
    rw [bk_at]; fin_cases a <;> simp [ix2, rowOf] <;> rfl
  have k : ∀ G : Cts (F := F) c wScr, View.readAt (Elt F) wScr.view (Rect.unit (s := S3x128x200) (k0_off5 (grid0.coords t)) S1x128x200.size (k0_off5_inb (grid0.coords t))).toLoadRect G (ix3 0 r s)
      = (wSlot (Ring.sl 3 t.val)).view.read (Elt F) G (ix2 r s) := fun G => congrArg G e.symm
  exact (k _).trans (h.trans (congrArg W e'))

/-- The average of column `d` in row `r`: the sum of the weighted entries over the sum of the weights. -/
def wavg (X : S4096x200x128.Idx → Elt Ideal .f32) (W : S4096x200.Idx → Elt Ideal .f32) (r : Fin 4096) (d : Fin 128) : Elt Ideal .f32 :=
  Ideal.div (∑ s : Fin 200, X (ix3 r s d) * W (ix2 r s)) (∑ s : Fin 200, W (ix2 r s))

variable (m : (ℓ : Loc nD τ sig) → Buf (Elt Ideal) ℓ)

/-- Step `t` computes the averages of its rows. -/
theorem avg_at (c : Dev nD) (t : Fin grid0.N) (r d : Fin 128) :
    avg m c t (ix2 r d) = wavg (m ((c.tc : Thread nD τ).loc main_arg0)) (m ((c.tc : Thread nD τ).loc main_arg1)) (rowOf t r) d := by
  have hx := fun s => xGet_at c t (at₀ m c main_arg0) r s d
  have hw := fun s => wGet_at c t (at₀ m c main_arg1) r s
  unfold avg wavg
  generalize xGet c t (at₀ m c main_arg0) = x at hx ⊢
  generalize wGet c t (at₀ m c main_arg1) = w at hw ⊢
  pointwise [k0_pay1]
  simp only [hx, hw]

/-! ## The whole result -/

/-- Where the kernel leaves its result: the average of every column in every row. -/
abbrev allAvg (c : Dev nD) : Buf (Elt Ideal) ((c.tc : Thread nD τ).loc main_v0) :=
  fun i : S4096x128.Idx => wavg (m ((c.tc : Thread nD τ).loc main_arg0)) (m ((c.tc : Thread nD τ).loc main_arg1)) (i 0) (i 1)

/-- The output window's block at step `t` starts at row `128 t`, in column 0. -/
theorem out_at : ∀ t : Fin grid0.N, (fun a => win0_0.index t a * win0_0.size a) = ![128 * t.val, 0] := by decide +kernel
/-- It has 128 rows and 128 columns. -/
theorem out_size : ∀ t : Fin grid0.N, win0_0.xsize (grid0.coords t) = ![128, 128] := by decide +kernel

/-- An entry of the output block of step `t`, among all entries. -/
theorem out_emb (t : Fin grid0.N) (r d : Fin 128) : (win0_0.blk t).view.emb (ix2 r d) = ix2 (rowOf t r) d := by
  funext a; apply Fin.ext
  show win0_0.index t a * win0_0.size a + 1 * (ix2 r d a).val = _
  rw [congrFun (out_at t) a]; fin_cases a <;> simp [ix2]

/-- What step `t` writes back is its block of the averages. -/
theorem wrote (c : Dev nD) (t : Fin cfg0.N) : (data m 0 c).flushed 0 t = (win0_0.blk t).view.read (Elt Ideal) (allAvg m c) := by
  show (cfg0.win 0).cut (grid0.coords t) ((data m 0 c).after 0 t) = _
  rw [data_after]
  funext j
  idx_vars j
  have k := congrArg (allAvg m c) (out_emb t j0 j1)
  refine Eq.trans ?_ k.symm
  exact avg_at m c t j0 j1

/-- Every entry of the result lies in the block of some step: rows `128 t` to `128 t + 127` in that of step `t`. -/
theorem tiled (i : S4096x128.Idx) : ∃ t : Fin cfg0.N, (cfg0.win 0).flush t = true ∧ i ∈ ((cfg0.win 0).blk t).view.set := by
  have hi : (i 0).val < 4096 := (i 0).isLt
  have hd : (i 1).val < 128 := (i 1).isLt
  let t : Fin grid0.N := ⟨(i 0).val / 128, by rw [N_0]; omega⟩
  have hs : ((View.whole main_v0).slice (win0_0.rect t)).set = (win0_0.rect t).set := View.set_slice_whole main_v0 _
  have hm : i ∈ (win0_0.rect t).set := by
    refine Rect.mem_set_unit.mpr fun a => ?_
    have h : win0_0.index t a * win0_0.size a = (![128 * t.val, 0] : Fin 2 → ℕ) a := congrFun (out_at t) a
    show win0_0.index t a * win0_0.size a ≤ (i a).val ∧ (i a).val < win0_0.index t a * win0_0.size a + win0_0.xsize (grid0.coords t) a
    rw [h, congrFun (out_size t) a]
    fin_cases a
    · show 128 * ((i 0).val / 128) ≤ (i 0).val ∧ (i 0).val < 128 * ((i 0).val / 128) + 128
      omega
    · show 0 ≤ (i 1).val ∧ (i 1).val < 0 + 128
      omega
  exact ⟨t, flush0_0 t, (Finset.ext_iff.mp hs i).mpr hm⟩

/-- So the result array ends as all the averages. -/
theorem result (c : Dev nD) : (data m 0 c).arrAt 0 cfg0.N = allAvg m c :=
  (data m 0 c).arrAt_eq_of_cover 0 (allAvg m c) (fun t _ => wrote m c t) tiled

end Cert.WAvg

end
-- ==== Proof.Claims.lean ====
/- The claims: both kernel programs run and keep their arguments, so does the reference, and the kernel's result is the reference's. -/
module

public import proofs.«01_k».proof.Defs
public import proofs.«01_k».proof.Proof.Block
public import proofs.«01_k».proof.Proof.Gen.Kernel
public import proofs.«01_k».proof.Proof.Gen.ReferenceIdeal.Run
public import Idealize.ShloMosaic.Lib.Quiescent

@[expose] public section

set_option maxRecDepth 16384

noncomputable section

namespace Cert.WAvg

open Idealize.ShloMosaic Idealize.SL.Sem

/-- The idealized kernel runs, keeps its arguments and ends with every semaphore at zero. -/
theorem frame_ideal : Cert.quiescent_KernelIdeal := fun m ρ _ =>
  (θ_run Cert.KernelIdeal.defs _ _).mono (fun _ h => ⟨fun c => (h.1 c).2, h.2⟩) (ends (F := Ideal) m ρ)

/-! The kernel as printed and its idealization are the same program: no operation was rewritten. -/

section
variable {F : FTy → Type} [FloatOps F]

/-- Every body is the same, -/
theorem body_same : @Cert.Kernel.defs₀ F _ _ = @Cert.KernelIdeal.defs₀ F _ _ := by
  refine congrArg Defs.onTc (funext fun l => funext fun a => ?_)
  match l, a with
  | 0, (_, _) => rfl
/-- so are the pipelines over them, -/
theorem defs_same : @Cert.Kernel.defs F _ _ = @Cert.KernelIdeal.defs F _ _ := congrArg (Pipeline.defs Cert.KernelIdeal.pcfgs) body_same
/-- and so is the main function. -/
theorem main_same : Cert.Kernel.main (F := F) = Cert.KernelIdeal.main (F := F) := rfl

end

/-- So the kernel as printed runs too, over machine words: the run is proved for any float values. -/
theorem frame_kernel : Cert.quiescent_Kernel := fun m ρ _ => by
  rw [defs_same, main_same]
  exact (θ_run Cert.KernelIdeal.defs _ _).mono (fun _ h => ⟨fun c => (h.1 c).2, h.2⟩) (ends (F := Bits) m ρ)

/-- So does the reference, which has no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

section
open Cert.ReferenceIdeal Cert.ReferenceIdeal.Gen

/-- The reference's result, element by element: the average. -/
theorem ref_at (X : S4096x200x128.Idx → Elt Ideal .f32) (W : S4096x200.Idx → Elt Ideal .f32) (r : Fin 4096) (d : Fin 128) :
    Host.divf (F := Ideal) (φ := .f32) (Host.reduceAdd (mulf X (broadcastInDim S4096x200x128 ![0, 1, 2] bcast_S4096x200x1_S4096x200x128_0_1_2 (broadcastInDim S4096x200x1 ![0, 1] bcast_S4096x200_S4096x200x1_0_1 W)))
        (constant S_ .f32 0x00000000#32) reducesTo_S4096x200x128_S4096x128_d1 h_S_)
      (broadcastInDim S4096x128 ![0, 1] bcast_S4096x1_S4096x128_0_1 (Host.reduceAdd (broadcastInDim S4096x200x1 ![0, 1] bcast_S4096x200_S4096x200x1_0_1 W)
        (constant S_ .f32 0x00000000#32) reducesTo_S4096x200x1_S4096x1_d1 h_S_)) (ix2 r d) = wavg X W r d := by
  unfold wavg
  pointwise []

end

/-- From equal arguments the kernel and the reference end with equal results. -/
theorem algebraic : Cert.algebraic_KernelIdeal_ReferenceIdeal := by
  intro m ρ m' ρ' _ agree
  refine ⟨fun c => allAvg m c, ?_, ?_⟩
  · exact (θ_run Cert.KernelIdeal.defs _ _).mono (fun _ h c => ⟨((h.1 c).1).trans (result m c), (h.1 c).2⟩) (ends (F := Ideal) m ρ)
  refine (θ_run Cert.ReferenceIdeal.defs _ _).mono (fun _ h c => ⟨(h c).1.trans ?_, (h c).2⟩) (Cert.ReferenceIdeal.Value.run (F := Ideal) m' ρ')
  funext j
  show _ = wavg _ _ _ _
  rw [← (agree c).1, ← (agree c).2]
  have e : j = ix2 (j 0) (j 1) := eq_ix2 j
  exact (congrArg _ e).trans (ref_at _ _ (j 0) (j 1))

end Cert.WAvg

end
-- ==== Proof.lean ====
module

public import proofs.«01_k».proof.Defs
public import proofs.«01_k».proof.Proof.Claims

@[expose] public section

noncomputable section

namespace Cert.Proof

theorem claim : Cert.Claim :=
  ⟨Cert.Kernel.Gen.facts, Cert.KernelIdeal.Gen.facts, Cert.ReferenceIdeal.Gen.facts,
    WAvg.frame_kernel, WAvg.frame_ideal, WAvg.frame_ref, trivial, WAvg.algebraic⟩

end Cert.Proof

end
